-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x512 .f32) (main_arg1 : IVec S100000 32) (main_arg2 : FVec F S512x512 .f32) (main_arg3 : FVec F S512 .f32) (main_arg4 : FVec F S512x1 .f32) (main_arg5 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S20x1x5000 : Shape := ⟨3, ![20, 1, 5000]⟩
abbrev S1x512 : Shape := ⟨2, ![1, 512]⟩
abbrev S64x512 : Shape := ⟨2, ![64, 512]⟩
abbrev S5000x512 : Shape := ⟨2, ![5000, 512]⟩
abbrev S1x1x5000 : Shape := ⟨3, ![1, 1, 5000]⟩
abbrev S1x64 : Shape := ⟨2, ![1, 64]⟩
abbrev S5000 : Shape := ⟨1, ![5000]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩

abbrev nBuf : Space → Nat
  | .hbm => 11
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S20x1x5000, .i32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S64x512, .f32⟩
  | .local _ .vmem, ⟨0, _⟩ => ⟨S5000x512, .f32⟩
  | .local _ .vmem, ⟨1, _⟩ => ⟨S5000x512, .f32⟩
  | .local _ .vmem, ⟨2, _⟩ => ⟨S1x1x5000, .i32⟩
  | .local _ .vmem, ⟨3, _⟩ => ⟨S1x1x5000, .i32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S64x512, .f32⟩
  | .local _ .vmem, ⟨8, _⟩ => ⟨S1x64, .f32⟩
  | .local _ .vmem, ⟨9, _⟩ => ⟨S1x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S100000x1 : Shape := ⟨2, ![100000, 1]⟩
abbrev S1x1 : Shape := ⟨2, ![1, 1]⟩
abbrev S64 : Shape := ⟨1, ![64]⟩
abbrev S1x64 : Shape := ⟨2, ![1, 64]⟩
abbrev S100000x64 : Shape := ⟨2, ![100000, 64]⟩
abbrev S64x512 : Shape := ⟨2, ![64, 512]⟩

abbrev nBuf : Space → Nat
  | .hbm => 64
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S100000x512, .f32⟩
  | .hbm, ⟨7, _⟩ => ⟨S1x512, .f32⟩
  | .hbm, ⟨8, _⟩ => ⟨S100000x512, .f32⟩
  | .hbm, ⟨9, _⟩ => ⟨S100000x512, .f32⟩
  | .hbm, ⟨10, _⟩ => ⟨S_, .f32⟩
  | .hbm, ⟨11, _⟩ => ⟨S100000x512, .f32⟩
  | .hbm, ⟨12, _⟩ => ⟨S100000x512, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S100000x1, .i32⟩
  | .hbm, ⟨19, _⟩ => ⟨S64, .i32⟩
  | .hbm, ⟨20, _⟩ => ⟨S1x64, .i32⟩
  | .hbm, ⟨21, _⟩ => ⟨S100000x64, .i32⟩
  | .hbm, ⟨22, _⟩ => ⟨S100000x64, .i32⟩
  | .hbm, ⟨23, _⟩ => ⟨S100000x64, .i1⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S64, .f32⟩
  | .hbm, ⟨45, _⟩ => ⟨S100000x1, .i32⟩
  | .hbm, ⟨46, _⟩ => ⟨S64, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x512, .f32⟩
  | .hbm, ⟨59, _⟩ => ⟨S100000x512, .f32⟩
  | .hbm, ⟨60, _⟩ => ⟨S_, .f32⟩
  | .hbm, ⟨61, _⟩ => ⟨S64x512, .f32⟩
  | .hbm, ⟨62, _⟩ => ⟨S100000x1, .i32⟩
  | .hbm, ⟨63, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.Frames.lean ====
/- The claims that do not speak of values: the kernel at both instances and the reference each run to the end, leave
   their arguments unchanged and every semaphore counter at zero; and the named constant that turns the kernel into its
   idealization is the one the rule allows. Also the side conditions of the precondition's printed function. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Init

@[expose] public section

noncomputable section

namespace Cert.Pre_finite.Own

/-- The shape relations that the precondition's function takes: broadcasts of a scalar and full reductions. -/
instance facts : Cert.Pre_finite.Facts where
  bcast_S_S100000x512 := by decide
  reducesTo_S100000x512_S_d0_1 := by decide
  h_S_ := by decide
  bcast_S_S512x512 := by decide
  reducesTo_S512x512_S_d0_1 := by decide
  bcast_S_S512 := by decide
  reducesTo_S512_S_d0 := by decide
  bcast_S_S512x1 := by decide
  reducesTo_S512x1_S_d0_1 := by decide
  bcast_S_S1 := by decide
  reducesTo_S1_S_d0 := by decide

end Cert.Pre_finite.Own

namespace Cert.Proof

open Idealize.ShloMosaic Idealize.SL.Sem

/-- The kernel over bit patterns runs, keeps its arguments and ends with every counter at zero. -/
theorem frame_kernel : Cert.quiescent_Kernel := fun m ρ _ => Cert.Kernel.Gen.frame m ρ

/-- The kernel over the extended reals runs, keeps its arguments and ends with every counter at zero. -/
theorem frame_ideal : Cert.quiescent_KernelIdeal := fun m ρ _ => Cert.KernelIdeal.Gen.frame m ρ

/-- The same under the value claim's precondition. -/
theorem frame_ideal_finite : Cert.quiescent_KernelIdeal_pre_finite := fun m ρ _ => Cert.KernelIdeal.Gen.frame m ρ

/-- The reference runs and keeps its arguments; it declares no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the value claim's precondition. -/
theorem frame_reference_finite : Cert.quiescent_ReferenceIdeal_pre_finite := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's constant of large magnitude, named `mask`, is the bottom element at the ideal instance: the rule's
    statement for that name. -/
theorem preserves : Cert.preserves_Kernel_KernelIdeal :=
  IdealRules.named_const.statement Cert.KernelIdeal.κ "mask" .f32 0xF149F2CA#32 ⊥ rfl

end Cert.Proof

end
-- ==== Proof.Softmax.lean ====
/- The softmax over a set of rows, in the reals, and the running form of it in the extended reals. Rows are natural
   numbers below `N`; `p n` says that row `n` belongs to the segment, `g n` is its gate and `x n` the entry to be
   averaged. Nothing here mentions a program. -/
module

public import Idealize.ShloMosaic.PureOps.Ideal
public import Mathlib.Data.EReal.Inv

@[expose] public section

noncomputable section

namespace Cert.KernelIdeal.Seg

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum of two. -/
theorem coe_max (a b : ℝ) : ((max a b : ℝ) : EReal) = max (a : EReal) (b : EReal) :=
  EReal.coe_strictMono.monotone.map_max

/-- The exponential of the bottom element is zero. -/
theorem exp_bot : Ideal.exp ⊥ = 0 := rfl

/-- The exponential of a real number is the real exponential. -/
theorem exp_coe (r : ℝ) : Ideal.exp (r : EReal) = ((Real.exp r : ℝ) : EReal) := rfl

/-- The quotient of two reals, the divisor not zero, is the real quotient. -/
theorem div_coe (a : ℝ) {b : ℝ} (hb : b ≠ 0) : Ideal.div (a : EReal) (b : EReal) = ((a / b : ℝ) : EReal) := by
  have h : ((b : ℝ) : EReal) ≠ 0 := by exact_mod_cast hb
  unfold Ideal.div
  rw [if_neg h, ← EReal.coe_inv, ← EReal.coe_mul, div_eq_mul_inv]

/-- The maximum of finitely many elements, each the bottom element or a real: the bottom element when all of them
    are. -/
theorem fold_max_bot {ι : Type} (s : Finset ι) (f : ι → EReal) (h : ∀ i ∈ s, f i = ⊥) : s.fold max ⊥ f = ⊥ := by
  have e : s.fold max ⊥ f = s.sup f := rfl
  rw [e, Finset.sup_eq_bot_iff]
  exact h

/-- The maximum of finitely many elements, each the bottom element or a real: a real when one of them is. -/
theorem fold_max_real {ι : Type} (s : Finset ι) (f : ι → EReal) (h : ∀ i ∈ s, f i = ⊥ ∨ ∃ r : ℝ, f i = r)
    {i : ι} (hi : i ∈ s) (hr : ∃ r : ℝ, f i = r) : ∃ r : ℝ, s.fold max ⊥ f = r := by
  have e : s.fold max ⊥ f = s.sup f := rfl
  obtain ⟨j, hj, hs⟩ := Finset.exists_mem_eq_sup s ⟨i, hi⟩ f
  rcases h j hj with hb | ⟨r, hr'⟩
  · obtain ⟨r, hr⟩ := hr
    have hle : f i ≤ s.sup f := Finset.le_sup hi
    rw [hs, hb, hr] at hle
    exact absurd (le_bot_iff.mp hle) (EReal.coe_ne_bot r)
  · exact ⟨r, by rw [e, hs, hr']⟩

section Rows

variable (p : ℕ → Prop) [DecidablePred p] (g x : ℕ → ℝ)

/-- The entries of the segment's rows below `N`, weighted by the exponential of their gate less `μ`. -/
def wsum (μ : ℝ) (N : ℕ) : ℝ := ∑ n ∈ Finset.range N, if p n then Real.exp (g n - μ) * x n else 0

/-- The softmax-weighted mean of the entries of the segment's rows below `N`: zero for a segment with no row. -/
def ratio (N : ℕ) : ℝ := wsum p g x 0 N / wsum p g (fun _ => 1) 0 N

variable {p g x}

/-- A change of the subtracted number rescales the weighted sum. -/
theorem wsum_rescale (μ ν : ℝ) (N : ℕ) : wsum p g x μ N * Real.exp (μ - ν) = wsum p g x ν N := by
  unfold wsum
  rw [Finset.sum_mul]
  refine Finset.sum_congr rfl fun n _ => ?_
  split
  · rw [mul_right_comm, ← Real.exp_add]
    congr 2
    ring
  · rw [zero_mul]

/-- A weighted sum over rows none of which belongs to the segment is zero. -/
theorem wsum_none (μ : ℝ) {N : ℕ} (h : ∀ n < N, ¬ p n) : wsum p g x μ N = 0 :=
  Finset.sum_eq_zero fun n hn => if_neg (h n (Finset.mem_range.mp hn))

/-- With a row in the segment the sum of the weights is positive. -/
theorem wsum_one_pos (μ : ℝ) {N : ℕ} (h : ∃ n < N, p n) : 0 < wsum p g (fun _ => 1) μ N := by
  obtain ⟨n, hn, hp⟩ := h
  refine Finset.sum_pos' (fun k _ => ?_) ⟨n, Finset.mem_range.mpr hn, ?_⟩
  · split
    · exact (mul_pos (Real.exp_pos _) one_pos).le
    · exact le_rfl
  · rw [if_pos hp]
    exact mul_pos (Real.exp_pos _) one_pos

/-- The mean does not depend on the number subtracted in the exponents. -/
theorem ratio_eq (μ : ℝ) (N : ℕ) : wsum p g x μ N / wsum p g (fun _ => 1) μ N = ratio p g x N := by
  unfold ratio
  rw [← wsum_rescale (p := p) (g := g) (x := x) 0 μ, ← wsum_rescale (p := p) (g := g) (x := fun _ => 1) 0 μ,
    mul_div_mul_right _ _ (Real.exp_pos _).ne']

/-- Nor does it change when one number is added to every gate. -/
theorem ratio_shift (C : ℝ) (N : ℕ) : ratio p (fun n => g n + C) x N = ratio p g x N := by
  have h : ∀ y : ℕ → ℝ, wsum p (fun n => g n + C) y 0 N = wsum p g y (-C) N := fun y => by
    unfold wsum
    refine Finset.sum_congr rfl fun n _ => ?_
    rw [sub_zero, sub_neg_eq_add]
  rw [← ratio_eq (p := p) (g := g) (-C), ratio, h, h]

/-- What the running softmax keeps of the rows below `N`, for one segment and one column: the subtracted number `m`,
    the sum of the weights `den`, the weighted sum of the entries `out`. While the segment has no row, `m` is the
    bottom element and both sums are zero; afterwards `m` is some real number, and the sums are taken relative
    to it. -/
def Holds (p : ℕ → Prop) [DecidablePred p] (g x : ℕ → ℝ) (N : ℕ) (m den out : EReal) : Prop :=
  (m = ⊥ ∧ (∀ n < N, ¬ p n) ∧ den = 0 ∧ out = 0) ∨
  ∃ μ : ℝ, m = μ ∧ (∃ n < N, p n) ∧ den = (wsum p g (fun _ => 1) μ N : ℝ) ∧ out = (wsum p g x μ N : ℝ)

/-- Before any row. -/
theorem Holds.start : Holds p g x 0 ⊥ 0 0 := .inl ⟨rfl, fun _ h => absurd h (Nat.not_lt_zero _), rfl, rfl⟩

/-- The number to subtract: zero in place of the bottom element. -/
def sub0 (m : EReal) : EReal := if m = ⊥ then 0 else m

/-- The weighted sum of the rows below `N + b` is that of the rows below `N` and that of the `b` rows after. -/
theorem wsum_add (y : ℕ → ℝ) (μ : ℝ) (N b : ℕ) : wsum p g y μ (N + b)
    = wsum p g y μ N + ∑ r : Fin b, if p (N + r) then Real.exp (g (N + r) - μ) * y (N + r) else 0 := by
  unfold wsum
  rw [Finset.sum_range_add, Fin.sum_univ_eq_sum_range (fun r => if p (N + r) then Real.exp (g (N + r) - μ) * y (N + r) else 0) b]

/-- A sum kept relative to `m`, rescaled to the real `ν`. -/
theorem rescale_old {N : ℕ} {m s : EReal} (y : ℕ → ℝ) (ν : ℝ)
    (h : (m = ⊥ ∧ (∀ n < N, ¬ p n) ∧ s = 0) ∨ ∃ μ : ℝ, m = μ ∧ s = (wsum p g y μ N : ℝ)) :
    s * Ideal.exp (m - ν) = (wsum p g y ν N : ℝ) := by
  rcases h with ⟨_, hn, rfl⟩ | ⟨μ, rfl, rfl⟩
  · rw [zero_mul, wsum_none ν hn, EReal.coe_zero]
  · rw [← EReal.coe_sub, exp_coe, ← EReal.coe_mul, wsum_rescale]

/-- One block of `b` rows: the masked gates `gm` (the bottom element off the segment) give the new maximum; the old sums
    are rescaled to it and the block's weights are added. -/
theorem Holds.step {N : ℕ} {m den out : EReal} (h : Holds p g x N m den out) {b : ℕ} (gm : Fin b → EReal)
    (hgm : ∀ r : Fin b, gm r = if p (N + r) then ((g (N + r) : ℝ) : EReal) else ⊥) (m' : EReal)
    (hm' : m' = max m (Finset.univ.fold max ⊥ gm)) :
    Holds p g x (N + b) m' (den * Ideal.exp (m - m') + ∑ r : Fin b, Ideal.exp (gm r - sub0 m'))
      (out * Ideal.exp (m - m') + ∑ r : Fin b, Ideal.exp (gm r - sub0 m') * ((x (N + r) : ℝ) : EReal)) := by
  have hreal : ∀ r ∈ Finset.univ, gm r = ⊥ ∨ ∃ q : ℝ, gm r = q := fun r _ => by
    rw [hgm]
    split
    · exact .inr ⟨_, rfl⟩
    · exact .inl rfl
  -- the two forms that the new maximum has
  have hcases : (m' = ⊥ ∧ m = ⊥ ∧ (∀ r : Fin b, ¬ p (N + r)) ∧ (∀ n < N, ¬ p n) ∧ den = 0 ∧ out = 0)
      ∨ ∃ ν : ℝ, m' = ν ∧ ∃ n < N + b, p n := by
    by_cases hb : ∃ r : Fin b, p (N + r)
    · obtain ⟨r, hr⟩ := hb
      obtain ⟨q, hq⟩ := fold_max_real Finset.univ gm hreal (Finset.mem_univ r) ⟨g (N + r), by rw [hgm, if_pos hr]⟩
      refine .inr ?_
      have hex : ∃ n < N + b, p n := ⟨N + r, by have := r.isLt; omega, hr⟩
      rcases h with ⟨rfl, _⟩ | ⟨μ, rfl, _⟩
      · exact ⟨q, by rw [hm', hq, max_eq_right bot_le], hex⟩
      · exact ⟨max μ q, by rw [hm', hq, coe_max], hex⟩
    · rw [not_exists] at hb
      have hbot : Finset.univ.fold max ⊥ gm = ⊥ := fold_max_bot _ _ fun r _ => by rw [hgm, if_neg (hb r)]
      rcases h with ⟨rfl, hn, hd, ho⟩ | ⟨μ, rfl, ⟨n, hn, hp⟩, _⟩
      · exact .inl ⟨by rw [hm', hbot, max_self], rfl, hb, hn, hd, ho⟩
      · exact .inr ⟨μ, by rw [hm', hbot, max_eq_left bot_le], n, by omega, hp⟩
  rcases hcases with ⟨rfl, rfl, hb, hn, rfl, rfl⟩ | ⟨ν, rfl, hex⟩
  · have hz : ∀ r : Fin b, Ideal.exp (gm r - sub0 ⊥) = 0 := fun r => by
      rw [hgm, if_neg (hb r), sub0, if_pos rfl, sub_zero, exp_bot]
    refine .inl ⟨rfl, fun n hlt => ?_, ?_, ?_⟩
    · by_cases h' : n < N
      · exact hn n h'
      · have := hb ⟨n - N, by omega⟩
        rwa [show N + (n - N) = n by omega] at this
    · rw [zero_mul, zero_add]
      exact Finset.sum_eq_zero fun r _ => hz r
    · rw [zero_mul, zero_add]
      exact Finset.sum_eq_zero fun r _ => by rw [hz, zero_mul]
  · have hw : ∀ r : Fin b, Ideal.exp (gm r - sub0 ν) = ((if p (N + r) then Real.exp (g (N + r) - ν) else 0 : ℝ) : EReal) := fun r => by
      rw [hgm, sub0, if_neg (EReal.coe_ne_bot ν)]
      split
      · rw [← EReal.coe_sub, exp_coe]
      · rw [EReal.bot_sub, exp_bot, EReal.coe_zero]
    refine .inr ⟨ν, rfl, hex, ?_, ?_⟩
    · rw [rescale_old (p := p) (g := g) (N := N) (fun _ => 1) ν, wsum_add, EReal.coe_add, coe_sum]
      · congr 1
        refine Finset.sum_congr rfl fun r _ => ?_
        rw [hw, mul_one]
      · rcases h with ⟨a, b', c, _⟩ | ⟨μ, a, _, c, _⟩
        · exact .inl ⟨a, b', c⟩
        · exact .inr ⟨μ, a, c⟩
    · rw [rescale_old (p := p) (g := g) (N := N) x ν, wsum_add, EReal.coe_add, coe_sum]
      · congr 1
        refine Finset.sum_congr rfl fun r _ => ?_
        rw [hw, ← EReal.coe_mul, ite_mul, zero_mul]
      · rcases h with ⟨a, b', _, c⟩ | ⟨μ, a, _, _, c⟩
        · exact .inl ⟨a, b', c⟩
        · exact .inr ⟨μ, a, c⟩

/-- After all rows, the quotient where the sum of the weights is positive and zero elsewhere is the mean. -/
theorem Holds.finish {N : ℕ} {m den out : EReal} (h : Holds p g x N m den out) :
    (if 0 < den then Ideal.div out den else 0) = ((ratio p g x N : ℝ) : EReal) := by
  rcases h with ⟨_, hn, rfl, rfl⟩ | ⟨μ, _, hex, rfl, rfl⟩
  · rw [if_neg (lt_irrefl _), ratio, wsum_none _ hn, zero_div, EReal.coe_zero]
  · have hpos := wsum_one_pos (p := p) (g := g) μ hex
    rw [if_pos (by exact_mod_cast hpos), div_coe _ hpos.ne', ratio_eq]

/-- The softmax written directly: the weights `e`, relative to some real number where the segment has a row, each divided
    by their sum, times the entries. -/
theorem direct {N : ℕ} (e : ℕ → EReal) (M : ℝ) (he : ∀ n < N, p n → e n = ((Real.exp (g n - M) : ℝ) : EReal)) :
    (∑ n ∈ Finset.range N, if p n then Ideal.div (e n) (∑ k ∈ Finset.range N, if p k then e k else 0) * ((x n : ℝ) : EReal) else 0)
      = ((ratio p g x N : ℝ) : EReal) := by
  by_cases hex : ∃ n < N, p n
  · have hpos := wsum_one_pos (p := p) (g := g) M hex
    have hden : (∑ k ∈ Finset.range N, if p k then e k else 0) = ((wsum p g (fun _ => 1) M N : ℝ) : EReal) := by
      unfold wsum
      rw [coe_sum]
      refine Finset.sum_congr rfl fun k hk => ?_
      split
      · next hp => rw [he k (Finset.mem_range.mp hk) hp, mul_one]
      · rw [EReal.coe_zero]
    have hsplit : ∀ D : ℝ, wsum p g x M N / D
        = ∑ n ∈ Finset.range N, (if p n then Real.exp (g n - M) * x n else 0) / D := fun D => Finset.sum_div _ _ _
    rw [hden, ← ratio_eq M, hsplit, coe_sum]
    refine Finset.sum_congr rfl fun n hn => ?_
    split
    · next hp =>
      rw [he n (Finset.mem_range.mp hn) hp, div_coe _ hpos.ne', ← EReal.coe_mul]
      congr 1
      ring
    · rw [zero_div, EReal.coe_zero]
  · have hn : ∀ n < N, ¬ p n := fun n hlt hp => hex ⟨n, hlt, hp⟩
    rw [ratio, wsum_none _ hn, zero_div, EReal.coe_zero]
    exact Finset.sum_eq_zero fun n hlt => if_neg (hn n (Finset.mem_range.mp hlt))

end Rows

end Cert.KernelIdeal.Seg

end
-- ==== Proof.Data.lean ====
/- Names for what the proof speaks of: rows, real entries, the members of a segment and the gate. -/
module

public import Idealize.ShloMosaic.Lib.Pointwise
public import proofs.«01_k».proof.Proof.Softmax

@[expose] public section

noncomputable section

namespace Cert.KernelIdeal.Seg

open Idealize.ShloMosaic

/-- An array of the extended reals with two axes. -/
abbrev Mat (a b : Nat) := FVec Ideal ⟨2, ![a, b]⟩ .f32

/-- An array of the extended reals with one axis. -/
abbrev Vec1 (a : Nat) := FVec Ideal ⟨1, ![a]⟩ .f32

/-- Row `n` of the input, for every natural number: rows repeat after the last. -/
def row (n : ℕ) : Fin 100000 := ⟨n % 100000, Nat.mod_lt _ (by decide)⟩

/-- The row that an index below the count names is that index. -/
theorem row_val (n : Fin 100000) : row n.val = n := Fin.ext (Nat.mod_eq_of_lt n.isLt)

/-- The same for a natural number below the count. -/
theorem row_of_lt {n : ℕ} (h : n < 100000) : row n = ⟨n, h⟩ := Fin.ext (Nat.mod_eq_of_lt h)

/-- Every element of the array is a real number. -/
def AllReal {s : Shape} (v : FVec Ideal s .f32) : Prop := ∀ i, ∃ r : ℝ, v i = ((r : ℝ) : EReal)

/-- The real number at an index of an array. -/
def re {s : Shape} (v : FVec Ideal s .f32) (i : s.Idx) : ℝ := EReal.toReal (v i)

/-- An entry of an array of real numbers is the coercion of its real number. -/
theorem AllReal.eq {s : Shape} {v : FVec Ideal s .f32} (h : AllReal v) (i : s.Idx) : v i = ((re v i : ℝ) : EReal) := by
  obtain ⟨r, hr⟩ := h i
  unfold re
  rw [hr]; rfl

/-- Row `n` belongs to segment `s`. -/
def mem (batch : IVec ⟨1, ![100000]⟩ 32) (s : Fin 64) (n : ℕ) : Prop := batch (ix1 (row n)) = BitVec.ofNat 32 s.val

/-- Membership in a segment is decidable. -/
instance (batch : IVec ⟨1, ![100000]⟩ 32) (s : Fin 64) : DecidablePred (mem batch s) := fun _ => by unfold mem; infer_instance

/-- The gate of row `n` as the kernel takes it: the maximum with the bias subtracted, and no last bias. -/
def gate (X : Mat 100000 512) (W1 : Mat 512 512) (B1 : Vec1 512) (W2 : Mat 512 1) (n : ℕ) : ℝ :=
  ∑ k : Fin 512, max (∑ j : Fin 512, re X (ix2 (row n) j) * re W1 (ix2 j k)) (-re B1 (ix1 k)) * re W2 (ix2 k 0)

/-- What the reference's gate adds to the kernel's, the same for every row. -/
def shift (B1 : Vec1 512) (W2 : Mat 512 1) (B2 : Vec1 1) : ℝ :=
  (∑ k : Fin 512, re B1 (ix1 k) * re W2 (ix2 k 0)) + re B2 (ix1 0)

/-- The rectified sum with a bias is the maximum with the bias subtracted, plus the bias. -/
theorem gate_shift (X : Mat 100000 512) (W1 : Mat 512 512) (B1 : Vec1 512) (W2 : Mat 512 1) (B2 : Vec1 1) (n : ℕ) :
    (∑ k : Fin 512, max ((∑ j : Fin 512, re X (ix2 (row n) j) * re W1 (ix2 j k)) + re B1 (ix1 k)) 0 * re W2 (ix2 k 0)) + re B2 (ix1 0)
      = gate X W1 B1 W2 n + shift B1 W2 B2 := by
  unfold gate shift
  rw [← add_assoc, ← Finset.sum_add_distrib]
  congr 1
  refine Finset.sum_congr rfl fun k _ => ?_
  rw [← add_mul, max_add, neg_add_cancel]

end Cert.KernelIdeal.Seg
-- ==== Proof.Finite.lean ====
/- The precondition read: every element of the five float arguments is a real number. -/
module

public import proofs.«01_k».proof.Proof.Frames
public import proofs.«01_k».proof.Proof.Data

@[expose] public section

set_option maxRecDepth 16384

noncomputable section

namespace Cert.KernelIdeal.Seg

open Idealize.ShloMosaic

/-- A conjunction of two bits is set exactly when both are. -/
theorem andi_one (a b : BitVec 1) : IntOp.andi a b = 1#1 ↔ a = 1#1 ∧ b = 1#1 := by
  revert a b; decide

/-- A conjunction of bits that is set has every bit set. -/
theorem fold_andi_one {ι : Type} (t : Finset ι) (f : ι → BitVec 1) (h : t.fold IntOp.andi (1#1) f = 1#1) : ∀ i ∈ t, f i = 1#1 := by
  classical
  induction t using Finset.induction_on with
  | empty => intro i hi; exact absurd hi (Finset.notMem_empty i)
  | insert a t ha ih =>
    rw [Finset.fold_insert ha, andi_one] at h
    intro i hi
    rcases Finset.mem_insert.1 hi with rfl | hi
    · exact h.1
    · exact ih h.2 i hi

/-- The same over every index of a type. -/
theorem all_andi_one {ι : Type} [Fintype ι] (f : ι → BitVec 1) (h : Finset.univ.fold IntOp.andi (1#1) f = 1#1) (i : ι) : f i = 1#1 :=
  fold_andi_one Finset.univ f h i (Finset.mem_univ i)

/-- A number whose magnitude is below infinity is real. -/
theorem real_of_abs_lt (x : Ideal .f32) (h : BitVec.ofBool (decide (FloatOps.absf x < Ideal.ofBits FTy.f32 0x7F800000#32)) = 1#1) :
    ∃ r : ℝ, x = ((r : ℝ) : EReal) := by
  have ht : Ideal.ofBits .f32 0x7F800000#32 = ⊤ := by simp [Ideal.ofBits, Ideal.ieee]
  rw [WordCmp.ofBool_decide_eq_one_iff, ht, Ideal.absf_def] at h
  have h1 : x ≠ ⊤ := by
    rintro rfl
    exact absurd h (by simp)
  have h2 : x ≠ ⊥ := by
    rintro rfl
    exact absurd h (by simp)
  exact ⟨EReal.toReal x, (EReal.coe_toReal h1 h2).symm⟩

/-- The precondition: every element of the five float arguments is a real number. -/
theorem allReal_of_finite (X : Mat 100000 512) (batch : IVec ⟨1, ![100000]⟩ 32) (W1 : Mat 512 512) (B1 : Vec1 512) (W2 : Mat 512 1) (B2 : Vec1 1)
    (h : Cert.Pre_finite.fn (F := Ideal) X batch W1 B1 W2 B2 = fun _ => 1#1) :
    AllReal X ∧ AllReal W1 ∧ AllReal B1 ∧ AllReal W2 ∧ AllReal B2 := by
  have h := congrFun h ix0
  pointwise [Cert.Pre_finite.fn, Cert.Pre_finite.fn_part1] at h
  simp only [andi_one] at h
  obtain ⟨⟨⟨⟨h0, h2⟩, h3⟩, h4⟩, h5⟩ := h
  have h0 := all_andi_one _ h0
  have h2 := all_andi_one _ h2
  have h3 := all_andi_one _ h3
  have h4 := all_andi_one _ h4
  have h5 := all_andi_one _ h5
  refine ⟨fun i => ?_, fun i => ?_, fun i => ?_, fun i => ?_, fun i => ?_⟩
  · obtain ⟨a, b, rfl⟩ : ∃ a b, i = ix2 a b := ⟨i 0, i 1, eq_ix2 i⟩
    exact real_of_abs_lt _ (h0 (a, b))
  · obtain ⟨a, b, rfl⟩ : ∃ a b, i = ix2 a b := ⟨i 0, i 1, eq_ix2 i⟩
    exact real_of_abs_lt _ (h2 (a, b))
  · obtain ⟨a, rfl⟩ : ∃ a, i = ix1 a := ⟨i 0, eq_ix1 i⟩
    exact real_of_abs_lt _ (h3 a)
  · obtain ⟨a, b, rfl⟩ : ∃ a b, i = ix2 a b := ⟨i 0, i 1, eq_ix2 i⟩
    exact real_of_abs_lt _ (h4 (a, b))
  · obtain ⟨a, rfl⟩ : ∃ a, i = ix1 a := ⟨i 0, eq_ix1 i⟩
    exact real_of_abs_lt _ (h5 a)

end Cert.KernelIdeal.Seg
-- ==== Proof.Reference.lean ====
/- The reference's value: the scatters and gathers read as sums over the members of a segment, the maximum of a segment, and
   the result as the quotient of two weighted sums. -/
module

public import proofs.«01_k».proof.Proof.Gen.ReferenceIdeal.Read
public import proofs.«01_k».proof.Proof.Data
public import Idealize.ShloMosaic.Lib.Routing.OpsPair
public import Idealize.ShloMosaic.Lib.StableHlo.Predicate

@[expose] public section

set_option maxRecDepth 16384

noncomputable section

namespace Cert.KernelIdeal.Seg

open Idealize.ShloMosaic Cert.ReferenceIdeal.Read
open Cert.ReferenceIdeal (scatter_S64_S100000x1_S100000_n_0_0_1 scatter_S64x512_S100000x1_S100000x512_1_0_0_1 gather_S64_S100000x1_S100000_n_0_n_n_0_1_1)

/-! ## Where the scatters land and what the gathers read -/

/-- A scalar update of the segment sums lands at segment `s` exactly when its index word is `s`. -/
theorem land1 (idx : IVec ⟨2, ![100000, 1]⟩ 32) (n : Fin 100000) (s : Fin 64) :
    scatter_S64_S100000x1_S100000_n_0_0_1.resultIdx? (ix1 n) idx = some (ix1 s) ↔ (idx (ix2 n 0)).toInt = (s.val : Int) := by
  have hs : scatter_S64_S100000x1_S100000_n_0_0_1.start (ix1 n) idx 0 = (idx (ix2 n 0)).toInt := by
    unfold ScatterDims.start
    rw [dif_pos (by decide)]
    congr 2
    funext b
    match b with
    | ⟨0, _⟩ => rfl
    | ⟨1, _⟩ => rfl
  have hw : scatter_S64_S100000x1_S100000_n_0_0_1.window (ix1 n) 0 = 0 := by
    unfold ScatterDims.window
    rw [dif_neg (by decide)]
  rw [Routing.resultIdx?_eq_some]
  constructor
  · intro h
    have h0 := h 0
    rw [hs, hw] at h0
    simpa using h0
  · intro h a
    obtain rfl : a = 0 := Subsingleton.elim _ _
    rw [hs, hw]
    simpa using h

/-- Column `q` of a row update of the segment sums lands at column `d` of segment `s` exactly when its index word is `s` and `q` is `d`. -/
theorem land2 (idx : IVec ⟨2, ![100000, 1]⟩ 32) (n : Fin 100000) (q : Fin 512) (s : Fin 64) (d : Fin 512) :
    scatter_S64x512_S100000x1_S100000x512_1_0_0_1.resultIdx? (ix2 n q) idx = some (ix2 s d) ↔ (idx (ix2 n 0)).toInt = (s.val : Int) ∧ q = d := by
  have hs : scatter_S64x512_S100000x1_S100000x512_1_0_0_1.start (ix2 n q) idx 0 = (idx (ix2 n 0)).toInt := by
    unfold ScatterDims.start
    rw [dif_pos (by decide)]
    congr 2
    funext b
    match b with
    | ⟨0, _⟩ => rfl
    | ⟨1, _⟩ => rfl
  have hs1 : scatter_S64x512_S100000x1_S100000x512_1_0_0_1.start (ix2 n q) idx 1 = 0 := by
    unfold ScatterDims.start
    rw [dif_neg (by decide)]
  have hw : scatter_S64x512_S100000x1_S100000x512_1_0_0_1.window (ix2 n q) 0 = 0 := by
    unfold ScatterDims.window
    rw [dif_neg (by decide)]
  have hw1 : scatter_S64x512_S100000x1_S100000x512_1_0_0_1.window (ix2 n q) 1 = q.val := by
    unfold ScatterDims.window
    rw [dif_pos (by decide)]
    rfl
  rw [Routing.resultIdx?_eq_some]
  constructor
  · intro h
    have h0 := h 0
    have h1 := h 1
    rw [hs, hw] at h0
    rw [hs1, hw1] at h1
    refine ⟨by simpa using h0, Fin.ext ?_⟩
    have h1' : (0 : Int) + (q.val : Int) = (d.val : Int) := h1
    omega
  · rintro ⟨h, rfl⟩ a
    match a with
    | ⟨0, _⟩ =>
      show scatter_S64x512_S100000x1_S100000x512_1_0_0_1.start (ix2 n q) idx 0 + (scatter_S64x512_S100000x1_S100000x512_1_0_0_1.window (ix2 n q) 0 : Int) = (s.val : Int)
      rw [hs, hw]; simpa using h
    | ⟨1, _⟩ =>
      show scatter_S64x512_S100000x1_S100000x512_1_0_0_1.start (ix2 n q) idx 1 + (scatter_S64x512_S100000x1_S100000x512_1_0_0_1.window (ix2 n q) 1 : Int) = (q.val : Int)
      rw [hs1, hw1]; simp

/-- The gather of the segments' values reads segment `s` at a row whose index word is `s`. -/
theorem take (x : Vec1 64) (idx : IVec ⟨2, ![100000, 1]⟩ 32) (n : Fin 100000) (s : Fin 64) (h : idx (ix2 n 0) = BitVec.ofNat 32 s.val) :
    Host.gather gather_S64_S100000x1_S100000_n_0_n_n_0_1_1 x idx (ix1 n) = x (ix1 s) := by
  have e := StableHlo.Predicate.gather_take gather_S64_S100000x1_S100000_n_0_n_n_0_1_1 rfl rfl rfl rfl x idx n (by decide)
  have hp : StableHlo.Predicate.ixP n = ix2 n (0 : Fin 1) := by
    funext b
    match b with
    | ⟨0, _⟩ => rfl
    | ⟨1, _⟩ => rfl
  have e1 : (Shape.Idx.ofFin n : (⟨1, ![100000]⟩ : Shape).Idx) = ix1 n := by
    rw [eq_ix1 (Shape.Idx.ofFin n)]; rfl
  rw [e1] at e
  rw [e, eq_ix1 (Shape.Idx.ofFin _)]
  congr 2
  apply Fin.ext
  show min (idx (StableHlo.Predicate.ixP n)).toInt.toNat (64 - 1) = s.val
  have := s.isLt
  rw [hp, h, WordCmp.toInt_ofNat_of_lt (by omega)]
  omega

/-- A word reads signed as a segment's number exactly when it is that number's word. -/
theorem word_iff (b : BitVec 32) (s : Fin 64) : b.toInt = (s.val : Int) ↔ b = BitVec.ofNat 32 s.val := by
  have hs : (BitVec.ofNat 32 s.val).toInt = (s.val : Int) := WordCmp.toInt_ofNat_of_lt (by have := s.isLt; omega)
  constructor
  · intro h
    exact BitVec.eq_of_toInt_eq (h.trans hs.symm)
  · rintro rfl
    exact hs

/-- The segment sum of scalars: the sum over the segment's rows. -/
theorem sum1 (x : Vec1 64) (idx : IVec ⟨2, ![100000, 1]⟩ 32) (batch : IVec ⟨1, ![100000]⟩ 32) (hidx : ∀ n, idx (ix2 n 0) = batch (ix1 n))
    (upd : Vec1 100000) (s : Fin 64) (hx : x (ix1 s) = 0) :
    Host.scatterAdd scatter_S64_S100000x1_S100000_n_0_0_1 x idx upd (ix1 s)
      = ∑ n ∈ Finset.range 100000, if mem batch s n then upd (ix1 (row n)) else 0 := by
  rw [← Fin.sum_univ_eq_sum_range (fun n => if mem batch s n then upd (ix1 (row n)) else 0) 100000]
  show Ideal.hostScatterAdd _ _ _ _ _ = _
  unfold Ideal.hostScatterAdd
  rw [hx, zero_add, Finset.sum_filter, sum_idx1]
  refine Finset.sum_congr rfl fun n _ => ?_
  have h : scatter_S64_S100000x1_S100000_n_0_0_1.resultIdx? (ix1 n) idx = some (ix1 s) ↔ mem batch s n.val := by
    unfold mem
    rw [land1, hidx, word_iff, row_val]
  by_cases hm : mem batch s n.val
  · rw [if_pos hm, if_pos (h.2 hm), row_val]
  · rw [if_neg hm, if_neg (mt h.1 hm)]

/-- The segment sum of rows: at every column the sum over the segment's rows. -/
theorem sum2 (x : Mat 64 512) (idx : IVec ⟨2, ![100000, 1]⟩ 32) (batch : IVec ⟨1, ![100000]⟩ 32) (hidx : ∀ n, idx (ix2 n 0) = batch (ix1 n))
    (upd : Mat 100000 512) (s : Fin 64) (d : Fin 512) (hx : x (ix2 s d) = 0) :
    Host.scatterAdd scatter_S64x512_S100000x1_S100000x512_1_0_0_1 x idx upd (ix2 s d)
      = ∑ n ∈ Finset.range 100000, if mem batch s n then upd (ix2 (row n) d) else 0 := by
  rw [← Fin.sum_univ_eq_sum_range (fun n => if mem batch s n then upd (ix2 (row n) d) else 0) 100000]
  show Ideal.hostScatterAdd _ _ _ _ _ = _
  unfold Ideal.hostScatterAdd
  rw [hx, zero_add, Finset.sum_filter, sum_idx2]
  refine Finset.sum_congr rfl fun n _ => ?_
  have h : ∀ q, scatter_S64x512_S100000x1_S100000x512_1_0_0_1.resultIdx? (ix2 n q) idx = some (ix2 s d) ↔ mem batch s n.val ∧ q = d := fun q => by
    unfold mem
    rw [land2, hidx, word_iff, row_val]
  by_cases hm : mem batch s n.val
  · rw [if_pos hm, Finset.sum_eq_single d, if_pos ((h d).2 ⟨hm, rfl⟩), row_val]
    · intro q _ hq
      rw [if_neg fun e => hq ((h q).1 e).2]
    · intro hd
      exact absurd (Finset.mem_univ d) hd
  · rw [if_neg hm]
    refine Finset.sum_eq_zero fun q _ => ?_
    rw [if_neg fun e => hm ((h q).1 e).1]

/-! ## The reference's arrays at an index -/

section

variable {X : Mat 100000 512} {W1 : Mat 512 512} {B1 : Vec1 512} {W2 : Mat 512 1} {B2 : Vec1 1}
variable (batch : IVec ⟨1, ![100000]⟩ 32)
variable (hX : AllReal X) (hW1 : AllReal W1) (hB1 : AllReal B1) (hW2 : AllReal W2) (hB2 : AllReal B2)

include hX hW1 hB1 hW2 hB2

/-- The reference's gate is a real number: the kernel's gate plus the shift. -/
theorem ref_gate (n : Fin 100000) :
    val_main_v10 (F := Ideal) X W1 B1 W2 B2 (ix1 n) = ((gate X W1 B1 W2 n.val + shift B1 W2 B2 : ℝ) : EReal) := by
  rw [← gate_shift]
  simp only [EReal.coe_add, coe_sum, EReal.coe_mul, coe_max, EReal.coe_zero, ← hX.eq, ← hW1.eq, ← hB1.eq, ← hW2.eq, ← hB2.eq, row_val]
  pointwise [val_main_v10, val_main_v9, val_main_v8, val_main_v7, val_main_v6, val_main_v5, val_main_v4, val_main_v3, val_main_v2, val_main_v1,
    val_main_v0, val_main_cst]

/-- The reference's maximum over a segment with a row is a real number. -/
theorem ref_max (s : Fin 64) {n : ℕ} (hn : mem batch s n) :
    ∃ M : ℝ, val_main_v19 (F := Ideal) X batch W1 B1 W2 B2 (ix1 s) = ((M : ℝ) : EReal) := by
  have hb : Ideal.ofBits .f32 0xFF800000#32 = ⊥ := by simp [Ideal.ofBits, Ideal.ieee]
  have e : val_main_v19 (F := Ideal) X batch W1 B1 W2 B2 (ix1 s)
      = Finset.univ.fold max ⊥ fun n : Fin 100000 => if batch (ix1 n) = BitVec.ofNat 32 s.val then
          ((gate X W1 B1 W2 n.val + shift B1 W2 B2 : ℝ) : EReal) else ⊥ := by
    pointwise [val_main_v19, val_main_v18, val_main_v17, val_main_v16, val_main_v15, val_main_v14, val_main_v13, val_main_v12, val_main_v11, val_main_cst_1,
      val_main_cst_0, val_main_call0_v0, val_main_call0_v1, val_main_call0_v2]
    rw [hb]
    congr 1
    funext n
    rw [ref_gate hX hW1 hB1 hW2 hB2 n, WordCmp.cmpi_eq_eq, WordCmp.select_decide]
    congr 1
  rw [e]
  refine fold_max_real _ _ (fun m _ => ?_) (Finset.mem_univ (row n)) ?_
  · by_cases h : batch (ix1 m) = BitVec.ofNat 32 s.val
    · rw [if_pos h]; exact Or.inr ⟨_, rfl⟩
    · rw [if_neg h]; exact Or.inl rfl
  · unfold mem at hn
    rw [if_pos hn]; exact ⟨_, rfl⟩

omit hX hW1 hB1 hW2 hB2 in
/-- The wrapped index of a row of segment `s` is `s`. -/
theorem wrapped (s : Fin 64) (n : Fin 100000) (h : batch (ix1 n) = BitVec.ofNat 32 s.val) :
    val_main_v25 (F := Ideal) batch (ix2 n 0) = BitVec.ofNat 32 s.val ∧ val_main_v37 (F := Ideal) batch (ix2 n 0) = BitVec.ofNat 32 s.val := by
  have hs : (BitVec.ofNat 32 s.val).toNat < 2 ^ (32 - 1) := by
    have := s.isLt
    rw [WordCmp.toNat_ofNat_of_lt (by omega)]; omega
  constructor
  · pointwise [val_main_v25, val_main_v24, val_main_v23, val_main_v22, val_main_v21, val_main_v20, val_main_c, val_main_c_2]
    rw [h]
    exact Routing.wrap_of_lt _ _ hs
  · pointwise [val_main_v37, val_main_v36, val_main_v35, val_main_v34, val_main_v33, val_main_v32, val_main_c_4, val_main_c_5]
    rw [h]
    exact Routing.wrap_of_lt _ _ hs

/-- The exponential the reference takes at a row of segment `s`, `M` the segment's maximum. -/
theorem ref_exp (s : Fin 64) {M : ℝ} (hM : val_main_v19 (F := Ideal) X batch W1 B1 W2 B2 (ix1 s) = ((M : ℝ) : EReal)) {n : ℕ} (hn : mem batch s n)
    (hlt : n < 100000) :
    val_main_v28 (F := Ideal) X batch W1 B1 W2 B2 (ix1 (row n)) = ((Real.exp (gate X W1 B1 W2 n + shift B1 W2 B2 - M) : ℝ) : EReal) := by
  have e : val_main_v28 (F := Ideal) X batch W1 B1 W2 B2 (ix1 (row n))
      = Ideal.exp (val_main_v10 (F := Ideal) X W1 B1 W2 B2 (ix1 (row n)) - val_main_v26 (F := Ideal) X batch W1 B1 W2 B2 (ix1 (row n))) := rfl
  have e2 : val_main_v26 (F := Ideal) X batch W1 B1 W2 B2 (ix1 (row n)) = ((M : ℝ) : EReal) :=
    (take _ _ _ s (wrapped batch s (row n) hn).1).trans hM
  have hr : (row n).val = n := Nat.mod_eq_of_lt hlt
  rw [e, e2, ref_gate hX hW1 hB1 hW2 hB2, hr, ← EReal.coe_sub, exp_coe]

/-- The reference at segment `s` and column `d`: the quotient of the two weighted sums over the segment's rows. -/
theorem ref_value (s : Fin 64) (d : Fin 512) :
    val_main_v45 (F := Ideal) X batch W1 B1 W2 B2 (ix2 s d)
      = ((ratio (mem batch s) (gate X W1 B1 W2) (fun n => re X (ix2 (row n) d)) 100000 : ℝ) : EReal) := by
  obtain ⟨M, hM⟩ : ∃ M : ℝ, ∀ n < 100000, mem batch s n →
      val_main_v28 (F := Ideal) X batch W1 B1 W2 B2 (ix1 (row n)) = ((Real.exp (gate X W1 B1 W2 n + shift B1 W2 B2 - M) : ℝ) : EReal) := by
    by_cases hex : ∃ n, mem batch s n
    · obtain ⟨n, hn⟩ := hex
      obtain ⟨M, hM⟩ := ref_max batch hX hW1 hB1 hW2 hB2 s hn
      exact ⟨M, fun m hlt hm => ref_exp batch hX hW1 hB1 hW2 hB2 s hM hm hlt⟩
    · exact ⟨0, fun m _ hm => absurd ⟨m, hm⟩ hex⟩
  have h31 : val_main_v31 (F := Ideal) X batch W1 B1 W2 B2 (ix1 s)
      = ∑ n ∈ Finset.range 100000, if mem batch s n then val_main_v28 (F := Ideal) X batch W1 B1 W2 B2 (ix1 (row n)) else 0 := by
    refine sum1 _ _ batch (fun n => ?_) _ s ?_
    · pointwise [val_main_v30]
    · pointwise [val_main_v29, val_main_cst_3]
  rw [← ratio_shift (shift B1 W2 B2), ← direct (fun n => val_main_v28 (F := Ideal) X batch W1 B1 W2 B2 (ix1 (row n))) M hM, ← h31]
  refine (sum2 _ _ batch (fun n => ?_) _ s d ?_).trans (Finset.sum_congr rfl fun n _ => ?_)
  · pointwise [val_main_v44]
  · pointwise [val_main_v43, val_main_cst_6]
  · by_cases hn : mem batch s n
    · rw [if_pos hn, if_pos hn, ← hX.eq]
      have e38 : val_main_v38 (F := Ideal) X batch W1 B1 W2 B2 (ix1 (row n)) = val_main_v31 (F := Ideal) X batch W1 B1 W2 B2 (ix1 s) :=
        take _ _ _ s (wrapped batch s (row n) hn).2
      rw [← e38]
      pointwise [val_main_v42, val_main_v41, val_main_v40, val_main_v39]
    · rw [if_neg hn, if_neg hn]

end

end Cert.KernelIdeal.Seg
-- ==== Proof.Payload.lean ====
/- The kernel body's stored values at an index, and what one block does to the running softmax. -/
module

public import proofs.«01_k».proof.Proof.Gen.KernelIdeal.Value
public import proofs.«01_k».proof.Proof.Data

@[expose] public section

set_option maxRecDepth 16384

noncomputable section

namespace Cert.KernelIdeal.Seg

open Idealize.ShloMosaic Cert.KernelIdeal.Gen

/-! ## The body's stored values at an index -/

/-- The named constant that masks the rows of other segments is negative infinity. -/
theorem mask_bot : Named.named (F := Ideal) (φ := .f32) Cert.KernelIdeal.κ "mask" 0xF149F2CA#32 = (⊥ : EReal) :=
  IdealRules.named_const.ideal_named_scalar _ _ _ _ rfl

/-- The word of minus infinity is the bottom element. -/
theorem neg_inf : Ideal.ofBits .f32 0xFF800000#32 = (⊥ : EReal) := by simp [Ideal.ofBits, Ideal.ieee]

section

variable (x : Mat 5000 512) (seg : IVec ⟨3, ![1, 1, 5000]⟩ 32) (w1 : Mat 512 512) (nb : Mat 1 512) (w2 : Mat 1 512)

/-- The masked gates of a block: one column per segment, negative infinity off the segment. -/
def gmat : Mat 5000 64 := k0_pay5 (F := Ideal) x w1 nb w2 seg

/-- The running maxima after a block. -/
def nextM (m : Mat 1 64) : Mat 1 64 := k0_pay12 (F := Ideal) x w1 nb w2 seg m

/-- The running denominators after a block. -/
def nextD (m den : Mat 1 64) : Mat 1 64 :=
  k0_pay2 (F := Ideal) (k0_pay5 x w1 nb w2 seg) (k0_pay10 x w1 nb w2 seg m) (k0_pay11 x w1 nb w2 seg m) (Named.named Cert.KernelIdeal.κ "mask" 0xF149F2CA#32) den

/-- The running weighted sums of rows after a block. -/
def nextO (m : Mat 1 64) (out : Mat 64 512) : Mat 64 512 :=
  k0_pay3 (F := Ideal) x (k0_pay5 x w1 nb w2 seg) (k0_pay10 x w1 nb w2 seg m) (k0_pay11 x w1 nb w2 seg m) (Named.named Cert.KernelIdeal.κ "mask" 0xF149F2CA#32) out

/-- The masked gates: a member's gate, and the bottom element for every other row. -/
theorem gmat_apply (r : Fin 5000) (s : Fin 64) :
    gmat x seg w1 nb w2 (ix2 r s) = if seg (ix3 0 0 r) = BitVec.ofNat 32 s.val then
      ∑ k : Fin 512, max (∑ j : Fin 512, x (ix2 r j) * w1 (ix2 j k)) (nb (ix2 0 k)) * w2 (ix2 0 k) else ⊥ := by
  unfold gmat
  pointwise [k0_pay5]
  rw [mask_bot, WordCmp.cmpi_eq_eq, WordCmp.select_decide]

/-- The maximum taken at a block. -/
theorem max_apply (m : Mat 1 64) (s : Fin 64) :
    k0_pay10 (F := Ideal) x w1 nb w2 seg m (ix1 s) = max (m (ix2 0 s)) (Finset.univ.fold max ⊥ fun r : Fin 5000 => gmat x seg w1 nb w2 (ix2 r s)) := by
  unfold gmat
  pointwise [k0_pay10, k0_pay9]
  rw [neg_inf]

/-- The new maximum: the old one against the block's masked gates. -/
theorem nextM_apply (m : Mat 1 64) (s : Fin 64) :
    nextM x seg w1 nb w2 m (ix2 0 s) = max (m (ix2 0 s)) (Finset.univ.fold max ⊥ fun r : Fin 5000 => gmat x seg w1 nb w2 (ix2 r s)) := by
  rw [← max_apply]
  unfold nextM
  pointwise [k0_pay12]

/-- The factor the sums so far are scaled by at a block. -/
theorem scale_apply (m : Mat 1 64) (s : Fin 64) :
    k0_pay11 (F := Ideal) x w1 nb w2 seg m (ix1 s) = Ideal.exp (m (ix2 0 s) - nextM x seg w1 nb w2 m (ix2 0 s)) := by
  rw [nextM_apply, ← max_apply]
  pointwise [k0_pay11, k0_pay9]

/-- The weight of a row of the block in a segment. -/
theorem weight_apply (m : Mat 1 64) (r : Fin 5000) (s : Fin 64) :
    k0_pay1 (F := Ideal) (k0_pay5 x w1 nb w2 seg) (k0_pay10 x w1 nb w2 seg m) (Named.named Cert.KernelIdeal.κ "mask" 0xF149F2CA#32) (ix2 r s)
      = Ideal.exp (gmat x seg w1 nb w2 (ix2 r s) - sub0 (nextM x seg w1 nb w2 m (ix2 0 s))) := by
  rw [nextM_apply, ← max_apply]
  unfold gmat sub0
  pointwise [k0_pay1]
  rw [mask_bot]

/-- The new denominator: the old one rescaled, and the block's weights added. -/
theorem nextD_apply (m den : Mat 1 64) (s : Fin 64) :
    nextD x seg w1 nb w2 m den (ix2 0 s)
      = den (ix2 0 s) * Ideal.exp (m (ix2 0 s) - nextM x seg w1 nb w2 m (ix2 0 s))
        + ∑ r : Fin 5000, Ideal.exp (gmat x seg w1 nb w2 (ix2 r s) - sub0 (nextM x seg w1 nb w2 m (ix2 0 s))) := by
  simp only [← weight_apply, ← scale_apply]
  unfold nextD
  pointwise [k0_pay2]

/-- The new weighted sum: the old one rescaled, and the block's weighted rows added. -/
theorem nextO_apply (m : Mat 1 64) (out : Mat 64 512) (s : Fin 64) (d : Fin 512) :
    nextO x seg w1 nb w2 m out (ix2 s d)
      = out (ix2 s d) * Ideal.exp (m (ix2 0 s) - nextM x seg w1 nb w2 m (ix2 0 s))
        + ∑ r : Fin 5000, Ideal.exp (gmat x seg w1 nb w2 (ix2 r s) - sub0 (nextM x seg w1 nb w2 m (ix2 0 s))) * x (ix2 r d) := by
  simp only [← weight_apply, ← scale_apply]
  unfold nextO
  pointwise [k0_pay3]

end

/-- The maxima start at negative infinity. -/
theorem initM_apply (s : Fin 64) : k0_pay6 (F := Ideal) (ix2 0 s) = (⊥ : EReal) := by
  pointwise [k0_pay6]
  exact mask_bot

/-- The denominators start at zero. -/
theorem initD_apply (s : Fin 64) : k0_pay7 (F := Ideal) (ix2 0 s) = (0 : EReal) := by
  pointwise [k0_pay7]

/-- The weighted sums start at zero. -/
theorem initO_apply (s : Fin 64) (d : Fin 512) : k0_pay8 (F := Ideal) (ix2 s d) = (0 : EReal) := by
  pointwise [k0_pay8]

/-- The last point divides by the denominator where it is positive. -/
theorem finish_apply (den : Mat 1 64) (out : Mat 64 512) (s : Fin 64) (d : Fin 512) :
    k0_pay4 (F := Ideal) den out (ix2 s d) = if 0 < den (ix2 0 s) then Ideal.div (out (ix2 s d)) (den (ix2 0 s)) else 0 := by
  pointwise [k0_pay4]

/-! ## One block of the sweep -/

section

variable {X : Mat 100000 512} {W1 : Mat 512 512} {B1 : Vec1 512} {W2 : Mat 512 1} {batch : IVec ⟨1, ![100000]⟩ 32}
variable {N : ℕ} {x : Mat 5000 512} {seg : IVec ⟨3, ![1, 1, 5000]⟩ 32} {w1 : Mat 512 512} {nb : Mat 1 512} {w2 : Mat 1 512}

/-- What a point's blocks hold of the arguments: the rows from `N` on, their segments, and the weights. -/
structure Blocks (X : Mat 100000 512) (batch : IVec ⟨1, ![100000]⟩ 32) (W1 : Mat 512 512) (B1 : Vec1 512) (W2 : Mat 512 1) (N : ℕ) (x : Mat 5000 512)
    (seg : IVec ⟨3, ![1, 1, 5000]⟩ 32) (w1 : Mat 512 512) (nb : Mat 1 512) (w2 : Mat 1 512) : Prop where
  rows : ∀ r j, x (ix2 r j) = X (ix2 (row (N + r.val)) j)
  segs : ∀ r, seg (ix3 0 0 r) = batch (ix1 (row (N + r.val)))
  mats : ∀ j k, w1 (ix2 j k) = W1 (ix2 j k)
  bias : ∀ k, nb (ix2 0 k) = -(B1 (ix1 k))
  vecs : ∀ k, w2 (ix2 0 k) = W2 (ix2 k 0)

variable (hX : AllReal X) (hW1 : AllReal W1) (hB1 : AllReal B1) (hW2 : AllReal W2) (hb : Blocks X batch W1 B1 W2 N x seg w1 nb w2)

include hX hW1 hB1 hW2 hb

/-- A block's masked gates: the gate of the row in its own segment, negative infinity in the others. -/
theorem gmat_eq (r : Fin 5000) (s : Fin 64) :
    gmat x seg w1 nb w2 (ix2 r s) = if mem batch s (N + r.val) then ((gate X W1 B1 W2 (N + r.val) : ℝ) : EReal) else ⊥ := by
  have e : (∑ k : Fin 512, max (∑ j : Fin 512, x (ix2 r j) * w1 (ix2 j k)) (nb (ix2 0 k)) * w2 (ix2 0 k))
      = ((gate X W1 B1 W2 (N + r.val) : ℝ) : EReal) := by
    unfold gate
    simp only [coe_sum, EReal.coe_mul, coe_max, EReal.coe_neg, ← hX.eq, ← hW1.eq, ← hB1.eq, ← hW2.eq, hb.rows, hb.mats, hb.bias, hb.vecs]
  rw [gmat_apply, e, hb.segs]
  rfl

/-- A block carries the invariant of the sweep from its first row past its last. -/
theorem next_holds (s : Fin 64) (d : Fin 512) {m den : Mat 1 64} {out : Mat 64 512}
    (h : Holds (mem batch s) (gate X W1 B1 W2) (fun n => re X (ix2 (row n) d)) N (m (ix2 0 s)) (den (ix2 0 s)) (out (ix2 s d))) :
    Holds (mem batch s) (gate X W1 B1 W2) (fun n => re X (ix2 (row n) d)) (N + 5000) (nextM x seg w1 nb w2 m (ix2 0 s))
      (nextD x seg w1 nb w2 m den (ix2 0 s)) (nextO x seg w1 nb w2 m out (ix2 s d)) := by
  have e := h.step (fun r : Fin 5000 => gmat x seg w1 nb w2 (ix2 r s)) (fun r => gmat_eq hX hW1 hB1 hW2 hb r s)
    (nextM x seg w1 nb w2 m (ix2 0 s)) (nextM_apply x seg w1 nb w2 m s)
  rw [nextD_apply, nextO_apply]
  simp only [hb.rows, hX.eq]
  exact e

end

end Cert.KernelIdeal.Seg
-- ==== Proof.Sweep.lean ====
/- The kernel's value: what each block holds of the arguments, what a point leaves from what it finds, and the invariant
   carried over the twenty points to the result. -/
module

public import proofs.«01_k».proof.Proof.Gen.KernelIdeal.Value
public import proofs.«01_k».proof.Proof.Payload
public import Idealize.ShloMosaic.Lib.Pipeline.ValueKit.Acc
public import Idealize.ShloMosaic.Lib.Pipeline.ValueKit.Point

@[expose] public section

set_option maxRecDepth 16384

noncomputable section

namespace Cert.KernelIdeal.Seg

open Idealize.ShloMosaic Idealize.ShloMosaic.TcCoe Idealize.SL.Sem Cert.KernelIdeal Cert.KernelIdeal.Gen Cert.KernelIdeal.Value

variable (m : (ℓ : Loc nD τ sig) → Buf (Elt Ideal) ℓ)

/-! ## The blocks a point reads -/

/-- Which block each input window holds at a point. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] :=
  (by decide +kernel : ∀ t : Fin grid0.N, _)

/-- The rows of point `t`'s block lie inside the array. -/
theorem lt_rows (t : Fin cfg0.N) (r : Fin 5000) : 5000 * t.val + r.val < 100000 := by
  have h : t.val < 20 := lt_of_lt_of_eq t.isLt (show cfg0.N = 20 from N_0)
  have := r.isLt
  omega

/-- Point `t` reads rows `5000 t` to `5000 t + 4999` of the nodes. -/
theorem blk_rows (c : Dev nD) (t : Fin cfg0.N) (r : Fin 5000) (j : Fin 512) :
    iblk m c 0 t (ix2 r j) = m ((c : Thread nD τ).loc main_arg0) (ix2 (⟨5000 * t.val + r.val, lt_rows t r⟩ : Fin 100000) j) := by
  blk_ext! [iblk, V, idx t]

/-- It reads the same rows' segment numbers. -/
theorem blk_segs (c : Dev nD) (t : Fin cfg0.N) (r : Fin 5000) :
    iblk m c 1 t (ix3 0 0 r) = m ((c : Thread nD τ).loc main_arg1) (ix1 (⟨5000 * t.val + r.val, lt_rows t r⟩ : Fin 100000)) := by
  blk_ext! [iblk, V, idx t]

/-- It reads the whole of the first layer's matrix. -/
theorem blk_mats (c : Dev nD) (t : Fin cfg0.N) (j k : Fin 512) :
    iblk m c 2 t (ix2 j k) = m ((c : Thread nD τ).loc main_arg2) (ix2 j k) := by
  blk_ext! [iblk, V, idx t]

/-- It reads the first layer's bias with its sign changed, which is what the host passes. -/
theorem blk_bias (c : Dev nD) (t : Fin cfg0.N) (k : Fin 512) :
    iblk m c 3 t (ix2 0 k) = Neg.neg (α := EReal) (m ((c : Thread nD τ).loc main_arg3) (ix1 k)) := by
  blk_simp [iblk, V, idx t]
  entry_read
  pointwise
  refine congrArg (fun j => Neg.neg (α := EReal) (m ((c : Thread nD τ).loc main_arg3) j)) (?_ : ix1 _ = ix1 k)
  blk_ext [idx t]

/-- It reads the second layer's column laid out as a row. -/
theorem blk_vecs (c : Dev nD) (t : Fin cfg0.N) (k : Fin 512) :
    iblk m c 4 t (ix2 0 k) = m ((c : Thread nD τ).loc main_arg4) (ix2 k 0) := by
  blk_ext! [iblk, V, idx t]

/-- What the blocks of point `t` hold of the arguments. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) (m ((c : Thread nD τ).loc main_arg4)) (5000 * t.val)
      (iblk m c 0 t) (iblk m c 1 t) (iblk m c 2 t) (iblk m c 3 t) (iblk m c 4 t) where
  rows r j := by rw [row_of_lt (lt_rows t r)]; exact blk_rows m c t r j
  segs r := by rw [row_of_lt (lt_rows t r)]; exact blk_segs m c t r
  mats j k := blk_mats m c t j k
  bias k := blk_bias m c t k
  vecs k := blk_vecs m c t k

/-! ## What a point leaves -/

/-- Reading the maxima's buffer gives what was last stored. -/
theorem read_scratch0 (x : Vec Ideal S1x64 .f32) :
    View.read (Elt Ideal) (View.whole cc0_scratch0) ((Memref.isWhole_whole cc0_scratch0).unread x) = x :=
  (Memref.isWhole_whole cc0_scratch0).read_unread x

/-- The same for the denominators' buffer. -/
theorem read_scratch1 (x : Vec Ideal S1x64 .f32) :
    View.read (Elt Ideal) (View.whole cc0_scratch1) ((Memref.isWhole_whole cc0_scratch1).unread x) = x :=
  (Memref.isWhole_whole cc0_scratch1).read_unread x

/-- What the result's buffer, the maxima and the denominators hold. -/
abbrev State := Vec Ideal S64x512 .f32 × Vec Ideal S1x64 .f32 × Vec Ideal S1x64 .f32

section

variable (c : Dev nD) (t : Fin cfg0.N) (acc : State)

/-- The maxima after point `t` from those before it. -/
def stepM (mx : Vec Ideal S1x64 .f32) : Vec Ideal S1x64 .f32 :=
  nextM (iblk m c 0 t) (iblk m c 1 t) (iblk m c 2 t) (iblk m c 3 t) (iblk m c 4 t) mx

/-- The denominators after point `t`. -/
def stepD (mx den : Vec Ideal S1x64 .f32) : Vec Ideal S1x64 .f32 :=
  nextD (iblk m c 0 t) (iblk m c 1 t) (iblk m c 2 t) (iblk m c 3 t) (iblk m c 4 t) mx den

/-- The weighted sums after point `t`, before any division. -/
def stepO (mx : Vec Ideal S1x64 .f32) (out : Vec Ideal S64x512 .f32) : Vec Ideal S64x512 .f32 :=
  nextO (iblk m c 0 t) (iblk m c 1 t) (iblk m c 2 t) (iblk m c 3 t) (iblk m c 4 t) mx out

/-- The first point starts the three from their initial values. -/
theorem first_point (h0 : t.val % 20 = 0) (h1 : ¬t.val % 20 = 19) :
    stAt0 m c t.val t.isLt acc = (stepO m c t (k0_pay6 (F := Ideal)) (k0_pay8 (F := Ideal)), stepM m c t (k0_pay6 (F := Ideal)),
      stepD m c t (k0_pay6 (F := Ideal)) (k0_pay7 (F := Ideal))) := by
  refine Prod.ext ?_ (Prod.ext ?_ ?_)
  · rw [stAt0_A m c t acc h0 h1]
    frame_out
    rfl
  · rw [stAt0_A m c t acc h0 h1]
    frame_out
    rfl
  · rw [stAt0_A m c t acc h0 h1]
    frame_out
    rfl

/-- A middle point carries the three on. -/
theorem middle_point (h0 : ¬t.val % 20 = 0) (h1 : ¬t.val % 20 = 19) :
    stAt0 m c t.val t.isLt acc = (stepO m c t acc.2.1 acc.1, stepM m c t acc.2.1, stepD m c t acc.2.1 acc.2.2) := by
  refine Prod.ext ?_ (Prod.ext ?_ ?_)
  · rw [stAt0_B m c t acc h0 h1]
    frame_out
    rw [read_scratch0]
    rfl
  · rw [stAt0_B m c t acc h0 h1]
    frame_out
    rw [read_scratch0]
    rfl
  · rw [stAt0_B m c t acc h0 h1]
    frame_out
    rw [read_scratch0, read_scratch1]
    rfl

/-- The last point carries them on and divides. -/
theorem last_point (h0 : ¬t.val % 20 = 0) (h1 : t.val % 20 = 19) :
    (stAt0 m c t.val t.isLt acc).1 = k0_pay4 (F := Ideal) (stepD m c t acc.2.1 acc.2.2) (stepO m c t acc.2.1 acc.1) := by
  rw [stAt0_C m c t acc h0 h1]
  frame_out
  rw [read_scratch0, read_scratch1]
  rfl

end

/-! ## The sweep over the points -/

section

variable (c : Dev nD)
variable (hX : AllReal (s := ⟨2, ![100000, 512]⟩) (m ((c : Thread nD τ).loc main_arg0))) (hW1 : AllReal (s := ⟨2, ![512, 512]⟩) (m ((c : Thread nD τ).loc main_arg2)))
variable (hB1 : AllReal (s := ⟨1, ![512]⟩) (m ((c : Thread nD τ).loc main_arg3))) (hW2 : AllReal (s := ⟨2, ![512, 1]⟩) (m ((c : Thread nD τ).loc main_arg4)))

/-- The invariant after the first `N` rows, at segment `s` and column `d` of the result. -/
abbrev Inv (s : Fin 64) (d : Fin 512) (N : ℕ) (out : Vec Ideal S64x512 .f32) (mx den : Vec Ideal S1x64 .f32) : Prop :=
  Holds (mem (m ((c : Thread nD τ).loc main_arg1)) s)
    (gate (m ((c : Thread nD τ).loc main_arg0)) (m ((c : Thread nD τ).loc main_arg2)) (m ((c : Thread nD τ).loc main_arg3)) (m ((c : Thread nD τ).loc main_arg4)))
    (fun n => re (s := ⟨2, ![100000, 512]⟩) (m ((c : Thread nD τ).loc main_arg0)) (ix2 (row n) d)) N (mx (ix2 0 s)) (den (ix2 0 s)) (out (ix2 s d))

include hX hW1 hB1 hW2

/-- A point carries the invariant past its block. -/
theorem step_inv (s : Fin 64) (d : Fin 512) (t : Fin cfg0.N) {out : Vec Ideal S64x512 .f32} {mx den : Vec Ideal S1x64 .f32}
    (h : Inv m c s d (5000 * t.val) out mx den) :
    Inv m c s d (5000 * t.val + 5000) (stepO m c t mx out) (stepM m c t mx) (stepD m c t mx den) :=
  next_holds hX hW1 hB1 hW2 (blocks m c t) s d h

/-- The invariant holds after every point but the last. -/
theorem sweep_inv (s : Fin 64) (d : Fin 512) : ∀ (n : ℕ) (hn : n < cfg0.N), n < 19 →
    Inv m c s d (5000 * n + 5000) (outsAt0 m c n hn).1 (outsAt0 m c n hn).2.1 (outsAt0 m c n hn).2.2
  | 0, hn, _ => by
    have e := first_point m c ⟨0, hn⟩ junk0 rfl (by simp)
    rw [outsAt0_zero, e]
    refine step_inv m c hX hW1 hB1 hW2 s d ⟨0, hn⟩ ?_
    have hs := Holds.start (p := mem (m ((c : Thread nD τ).loc main_arg1)) s)
      (g := gate (m ((c : Thread nD τ).loc main_arg0)) (m ((c : Thread nD τ).loc main_arg2)) (m ((c : Thread nD τ).loc main_arg3)) (m ((c : Thread nD τ).loc main_arg4)))
      (x := fun n => re (s := ⟨2, ![100000, 512]⟩) (m ((c : Thread nD τ).loc main_arg0)) (ix2 (row n) d))
    unfold Inv
    rw [initM_apply, initD_apply, initO_apply]
    exact hs
  | n + 1, hn, h19 => by
    have ih := sweep_inv s d n (Nat.lt_of_succ_lt hn) (by omega)
    have e := middle_point m c ⟨n + 1, hn⟩ (outsAt0 m c n (Nat.lt_of_succ_lt hn)) (by dsimp only; omega) (by dsimp only; omega)
    rw [outsAt0_succ, e]
    exact step_inv m c hX hW1 hB1 hW2 s d ⟨n + 1, hn⟩ ih

/-- The result at segment `s` and column `d`: the quotient of the two weighted sums over the segment's rows. -/
theorem kernel_value (s : Fin 64) (d : Fin 512) :
    G5 m c (ix2 s d) = ((ratio (mem (m ((c : Thread nD τ).loc main_arg1)) s)
      (gate (m ((c : Thread nD τ).loc main_arg0)) (m ((c : Thread nD τ).loc main_arg2)) (m ((c : Thread nD τ).loc main_arg3)) (m ((c : Thread nD τ).loc main_arg4)))
      (fun n => re (s := ⟨2, ![100000, 512]⟩) (m ((c : Thread nD τ).loc main_arg0)) (ix2 (row n) d)) 100000 : ℝ) : EReal) := by
  have h19 : 18 + 1 < cfg0.N := lt_of_lt_of_eq (by decide) N_0.symm
  have h18 : 18 < cfg0.N := Nat.lt_of_succ_lt h19
  have e := last_point m c ⟨18 + 1, h19⟩ (outsAt0 m c 18 h18) (by simp) (by simp)
  have hi := step_inv m c hX hW1 hB1 hW2 s d ⟨18 + 1, h19⟩ (sweep_inv m c hX hW1 hB1 hW2 s d 18 h18 (by decide))
  rw [G5_last, ← outsAt0_sweep m c (18 + 1) h19, outsAt0_succ, e, finish_apply]
  exact hi.finish

end

end Cert.KernelIdeal.Seg
-- ==== Proof.Algebraic.lean ====
/- The value claim: over the extended reals, on finite float arguments, the kernel's result is the reference's. Both are,
   at segment `s` and column `d`, the same quotient of two weighted sums over the segment's rows. -/
module

public import proofs.«01_k».proof.Defs
public import proofs.«01_k».proof.Proof.Frames
public import proofs.«01_k».proof.Proof.Finite
public import proofs.«01_k».proof.Proof.Reference
public import proofs.«01_k».proof.Proof.Sweep
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

/-- The two results agree when the arguments agree and are finite. -/
theorem results_eq (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.ReferenceIdeal.Read.val_main_v45 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      = Cert.KernelIdeal.Value.G5 m c := by
  obtain ⟨hX, hW1, hB1, hW2, hB2⟩ := Cert.KernelIdeal.Seg.allReal_of_finite _ _ _ _ _ _ (hpre c)
  have hk := fun s d => Cert.KernelIdeal.Seg.kernel_value m c hX hW1 hB1 hW2 s d
  have hr := fun s d => Cert.KernelIdeal.Seg.ref_value (m ((c : Thread Cert.KernelIdeal.nD Cert.KernelIdeal.τ).loc Cert.KernelIdeal.main_arg1)) hX hW1 hB1 hW2 hB2 s d
  refine funext fun i => ?_
  have e : i = ix2 (i 0) (i 1) := eq_ix2 i
  rw [e]
  exact (hr (i 0) (i 1)).trans (hk (i 0) (i 1)).symm

/-- The value claim, for the one result. -/
theorem algebraic : Cert.algebraic_KernelIdeal_ReferenceIdeal_pre_finite := by
  intro m g m' g' hpre hagree
  refine ⟨fun c => Cert.KernelIdeal.Value.G5 m c, Cert.KernelIdeal.Value.run m g,
    (θ_run Cert.ReferenceIdeal.defs _ _).mono (fun r h c => ⟨(h c).1.trans ?_, (h c).2⟩) (Cert.ReferenceIdeal.Value.run m' g')⟩
  obtain ⟨h0, h1, h2, h3, h4, h5⟩ := hagree c
  refine (Cert.ReferenceIdeal.Read.val_main_v45_eq m' c).trans ?_
  rw [h0, h1, h2, h3, h4, h5]
  exact results_eq m hpre c

end Cert.Proof

end
-- ==== Proof.lean ====
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite.Own.facts,
    frame_kernel, frame_ideal, frame_ideal_finite, frame_reference, frame_reference_finite, preserves, algebraic⟩

end Cert.Proof

end
